-- ==== Defs.lean ====
def Pre_Product (m : (ℓ : Loc Cert.Product.nD Cert.Product.τ Cert.Product.sig) → Buf (Elt Bits) ℓ) : Prop :=
  True

def Pre_ProductIdeal (m : (ℓ : Loc Cert.ProductIdeal.nD Cert.ProductIdeal.τ Cert.ProductIdeal.sig) → Buf (Elt Ideal) ℓ) : Prop :=
  True

def Pre_ProductRefIdeal (m : (ℓ : Loc Cert.ProductRefIdeal.nD Cert.ProductRefIdeal.τ Cert.ProductRefIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseRef (m : (ℓ : Loc Cert.QuantiseRef.nD Cert.QuantiseRef.τ Cert.QuantiseRef.sig) → Buf (Elt Bits) ℓ) : Prop :=
  True

def quiescent_Product [hProduct : Cert.Product.Facts] : Prop :=
  ∀ (m : (ℓ : Loc Cert.Product.nD Cert.Product.τ Cert.Product.sig) → Buf (Elt Bits) ℓ) (g : Dev Cert.Product.nD → PrngReg), Pre_Product m →
    θ_run (Cert.Product.defs (F := Bits)) (onTc (τ := Cert.Product.τ) (Cert.Product.main (F := Bits))) ⟨m, fun _ => 0, g⟩ (fun r => (∀ c : Dev Cert.Product.nD,
      r.2.mem ((c.tc : Thread Cert.Product.nD Cert.Product.τ).loc Cert.Product.main_arg0) = m ((c.tc : Thread Cert.Product.nD Cert.Product.τ).loc Cert.Product.main_arg0)
      ∧ r.2.mem ((c.tc : Thread Cert.Product.nD Cert.Product.τ).loc Cert.Product.main_arg1) = m ((c.tc : Thread Cert.Product.nD Cert.Product.τ).loc Cert.Product.main_arg1)
      ∧ r.2.mem ((c.tc : Thread Cert.Product.nD Cert.Product.τ).loc Cert.Product.main_arg2) = m ((c.tc : Thread Cert.Product.nD Cert.Product.τ).loc Cert.Product.main_arg2)
      ∧ r.2.mem ((c.tc : Thread Cert.Product.nD Cert.Product.τ).loc Cert.Product.main_arg3) = m ((c.tc : Thread Cert.Product.nD Cert.Product.τ).loc Cert.Product.main_arg3)
      ∧ r.2.mem ((c.tc : Thread Cert.Product.nD Cert.Product.τ).loc Cert.Product.main_arg4) = m ((c.tc : Thread Cert.Product.nD Cert.Product.τ).loc Cert.Product.main_arg4))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
      ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ r.2.sem = fun _ => 0)

def quiescent_ProductRefIdeal [hProductRefIdeal : Cert.ProductRefIdeal.Facts] : Prop :=
  ∀ (m : (ℓ : Loc Cert.ProductRefIdeal.nD Cert.ProductRefIdeal.τ Cert.ProductRefIdeal.sig) → Buf (Elt Ideal) ℓ) (g : Dev Cert.ProductRefIdeal.nD → PrngReg), Pre_ProductRefIdeal m →
    θ_run (Cert.ProductRefIdeal.defs (F := Ideal)) (onTc (τ := Cert.ProductRefIdeal.τ) (Cert.ProductRefIdeal.main (F := Ideal))) ⟨m, fun _ => 0, g⟩ (fun r => (∀ c : Dev Cert.ProductRefIdeal.nD,
      r.2.mem ((c.tc : Thread Cert.ProductRefIdeal.nD Cert.ProductRefIdeal.τ).loc Cert.ProductRefIdeal.main_arg0) = m ((c.tc : Thread Cert.ProductRefIdeal.nD Cert.ProductRefIdeal.τ).loc Cert.ProductRefIdeal.main_arg0)
      ∧ r.2.mem ((c.tc : Thread Cert.ProductRefIdeal.nD Cert.ProductRefIdeal.τ).loc Cert.ProductRefIdeal.main_arg1) = m ((c.tc : Thread Cert.ProductRefIdeal.nD Cert.ProductRefIdeal.τ).loc Cert.ProductRefIdeal.main_arg1)
      ∧ r.2.mem ((c.tc : Thread Cert.ProductRefIdeal.nD Cert.ProductRefIdeal.τ).loc Cert.ProductRefIdeal.main_arg2) = m ((c.tc : Thread Cert.ProductRefIdeal.nD Cert.ProductRefIdeal.τ).loc Cert.ProductRefIdeal.main_arg2)
      ∧ r.2.mem ((c.tc : Thread Cert.ProductRefIdeal.nD Cert.ProductRefIdeal.τ).loc Cert.ProductRefIdeal.main_arg3) = m ((c.tc : Thread Cert.ProductRefIdeal.nD Cert.ProductRefIdeal.τ).loc Cert.ProductRefIdeal.main_arg3)
      ∧ r.2.mem ((c.tc : Thread Cert.ProductRefIdeal.nD Cert.ProductRefIdeal.τ).loc Cert.ProductRefIdeal.main_arg4) = m ((c.tc : Thread Cert.ProductRefIdeal.nD Cert.ProductRefIdeal.τ).loc Cert.ProductRefIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseRef [hQuantiseRef : Cert.QuantiseRef.Facts] : Prop :=
  ∀ (m : (ℓ : Loc Cert.QuantiseRef.nD Cert.QuantiseRef.τ Cert.QuantiseRef.sig) → Buf (Elt Bits) ℓ) (g : Dev Cert.QuantiseRef.nD → PrngReg), Pre_QuantiseRef m →
    θ_run (Cert.QuantiseRef.defs (F := Bits)) (onTc (τ := Cert.QuantiseRef.τ) (Cert.QuantiseRef.main (F := Bits))) ⟨m, fun _ => 0, g⟩ (fun r => (∀ c : Dev Cert.QuantiseRef.nD,
      r.2.mem ((c.tc : Thread Cert.QuantiseRef.nD Cert.QuantiseRef.τ).loc Cert.QuantiseRef.main_arg0) = m ((c.tc : Thread Cert.QuantiseRef.nD Cert.QuantiseRef.τ).loc Cert.QuantiseRef.main_arg0))
      ∧ r.2.sem = fun _ => 0)

def preserves_Product_ProductIdeal : Prop :=
  True

def algebraic_ProductIdeal_ProductRefIdeal [hProductIdeal : Cert.ProductIdeal.Facts] [hProductRefIdeal : Cert.ProductRefIdeal.Facts] : Prop :=
  ∀ (m : (ℓ : Loc Cert.ProductIdeal.nD Cert.ProductIdeal.τ Cert.ProductIdeal.sig) → Buf (Elt Ideal) ℓ) (g : Dev Cert.ProductIdeal.nD → PrngReg)
    (m' : (ℓ : Loc Cert.ProductRefIdeal.nD Cert.ProductRefIdeal.τ Cert.ProductRefIdeal.sig) → Buf (Elt Ideal) ℓ) (g' : Dev Cert.ProductRefIdeal.nD → PrngReg), Pre_ProductIdeal m →
    (∀ c : Dev Cert.ProductIdeal.nD,
      m' ((c.tc : Thread Cert.ProductRefIdeal.nD Cert.ProductRefIdeal.τ).loc Cert.ProductRefIdeal.main_arg0) = m ((c.tc : Thread Cert.ProductIdeal.nD Cert.ProductIdeal.τ).loc Cert.ProductIdeal.main_arg0)
      ∧ m' ((c.tc : Thread Cert.ProductRefIdeal.nD Cert.ProductRefIdeal.τ).loc Cert.ProductRefIdeal.main_arg1) = m ((c.tc : Thread Cert.ProductIdeal.nD Cert.ProductIdeal.τ).loc Cert.ProductIdeal.main_arg1)
      ∧ m' ((c.tc : Thread Cert.ProductRefIdeal.nD Cert.ProductRefIdeal.τ).loc Cert.ProductRefIdeal.main_arg2) = m ((c.tc : Thread Cert.ProductIdeal.nD Cert.ProductIdeal.τ).loc Cert.ProductIdeal.main_arg2)
      ∧ m' ((c.tc : Thread Cert.ProductRefIdeal.nD Cert.ProductRefIdeal.τ).loc Cert.ProductRefIdeal.main_arg3) = m ((c.tc : Thread Cert.ProductIdeal.nD Cert.ProductIdeal.τ).loc Cert.ProductIdeal.main_arg3)
      ∧ m' ((c.tc : Thread Cert.ProductRefIdeal.nD Cert.ProductRefIdeal.τ).loc Cert.ProductRefIdeal.main_arg4) = m ((c.tc : Thread Cert.ProductIdeal.nD Cert.ProductIdeal.τ).loc Cert.ProductIdeal.main_arg4)) →
    ∃ (v0 : (c : Dev Cert.ProductIdeal.nD) → Buf (Elt Ideal) ((c.tc : Thread Cert.ProductIdeal.nD Cert.ProductIdeal.τ).loc Cert.ProductIdeal.main_v6)),
      θ_run (Cert.ProductIdeal.defs (F := Ideal)) (onTc (τ := Cert.ProductIdeal.τ) (Cert.ProductIdeal.main (F := Ideal))) ⟨m, fun _ => 0, g⟩ (fun r => ∀ c : Dev Cert.ProductIdeal.nD,
          r.2.mem ((c.tc : Thread Cert.ProductIdeal.nD Cert.ProductIdeal.τ).loc Cert.ProductIdeal.main_v6) = v0 c
          ∧ r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
          ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
          ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ θ_run (Cert.ProductRefIdeal.defs (F := Ideal)) (onTc (τ := Cert.ProductRefIdeal.τ) (Cert.ProductRefIdeal.main (F := Ideal))) ⟨m', fun _ => 0, g'⟩ (fun r => ∀ c : Dev Cert.ProductRefIdeal.nD,
          r.2.mem ((c.tc : Thread Cert.ProductRefIdeal.nD Cert.ProductRefIdeal.τ).loc Cert.ProductRefIdeal.main_v9) = v0 c
          ∧ r.2.mem ((c.tc : Thread Cert.ProductRefIdeal.nD Cert.ProductRefIdeal.τ).loc Cert.ProductRefIdeal.main_arg0) = m' ((c.tc : Thread Cert.ProductRefIdeal.nD Cert.ProductRefIdeal.τ).loc Cert.ProductRefIdeal.main_arg0)
          ∧ r.2.mem ((c.tc : Thread Cert.ProductRefIdeal.nD Cert.ProductRefIdeal.τ).loc Cert.ProductRefIdeal.main_arg1) = m' ((c.tc : Thread Cert.ProductRefIdeal.nD Cert.ProductRefIdeal.τ).loc Cert.ProductRefIdeal.main_arg1)
          ∧ r.2.mem ((c.tc : Thread Cert.ProductRefIdeal.nD Cert.ProductRefIdeal.τ).loc Cert.ProductRefIdeal.main_arg2) = m' ((c.tc : Thread Cert.ProductRefIdeal.nD Cert.ProductRefIdeal.τ).loc Cert.ProductRefIdeal.main_arg2)
          ∧ r.2.mem ((c.tc : Thread Cert.ProductRefIdeal.nD Cert.ProductRefIdeal.τ).loc Cert.ProductRefIdeal.main_arg3) = m' ((c.tc : Thread Cert.ProductRefIdeal.nD Cert.ProductRefIdeal.τ).loc Cert.ProductRefIdeal.main_arg3)
          ∧ r.2.mem ((c.tc : Thread Cert.ProductRefIdeal.nD Cert.ProductRefIdeal.τ).loc Cert.ProductRefIdeal.main_arg4) = m' ((c.tc : Thread Cert.ProductRefIdeal.nD Cert.ProductRefIdeal.τ).loc Cert.ProductRefIdeal.main_arg4))

def bitexact_Quantise_QuantiseRef [hQuantise : Cert.Quantise.Facts] [hQuantiseRef : Cert.QuantiseRef.Facts] : Prop :=
  ∀ (m : (ℓ : Loc Cert.Quantise.nD Cert.Quantise.τ Cert.Quantise.sig) → Buf (Elt Bits) ℓ) (g : Dev Cert.Quantise.nD → PrngReg)
    (m' : (ℓ : Loc Cert.QuantiseRef.nD Cert.QuantiseRef.τ Cert.QuantiseRef.sig) → Buf (Elt Bits) ℓ) (g' : Dev Cert.QuantiseRef.nD → PrngReg), Pre_Quantise m →
    (∀ c : Dev Cert.Quantise.nD,
      m' ((c.tc : Thread Cert.QuantiseRef.nD Cert.QuantiseRef.τ).loc Cert.QuantiseRef.main_arg0) = m ((c.tc : Thread Cert.Quantise.nD Cert.Quantise.τ).loc Cert.Quantise.main_arg0)) →
    ∃ (v0 : (c : Dev Cert.Quantise.nD) → Buf (Elt Bits) ((c.tc : Thread Cert.Quantise.nD Cert.Quantise.τ).loc Cert.Quantise.main_v1_0)) (v1 : (c : Dev Cert.Quantise.nD) → Buf (Elt Bits) ((c.tc : Thread Cert.Quantise.nD Cert.Quantise.τ).loc Cert.Quantise.main_v1_1)),
      θ_run (Cert.Quantise.defs (F := Bits)) (onTc (τ := Cert.Quantise.τ) (Cert.Quantise.main (F := Bits))) ⟨m, fun _ => 0, g⟩ (fun r => ∀ c : Dev Cert.Quantise.nD,
          r.2.mem ((c.tc : Thread Cert.Quantise.nD Cert.Quantise.τ).loc Cert.Quantise.main_v1_0) = v0 c
          ∧ r.2.mem ((c.tc : Thread Cert.Quantise.nD Cert.Quantise.τ).loc Cert.Quantise.main_v1_1) = v1 c
          ∧ r.2.mem ((c.tc : Thread Cert.Quantise.nD Cert.Quantise.τ).loc Cert.Quantise.main_arg0) = m ((c.tc : Thread Cert.Quantise.nD Cert.Quantise.τ).loc Cert.Quantise.main_arg0))
      ∧ θ_run (Cert.QuantiseRef.defs (F := Bits)) (onTc (τ := Cert.QuantiseRef.τ) (Cert.QuantiseRef.main (F := Bits))) ⟨m', fun _ => 0, g'⟩ (fun r => ∀ c : Dev Cert.QuantiseRef.nD,
          r.2.mem ((c.tc : Thread Cert.QuantiseRef.nD Cert.QuantiseRef.τ).loc Cert.QuantiseRef.main_v1_0) = v0 c
          ∧ r.2.mem ((c.tc : Thread Cert.QuantiseRef.nD Cert.QuantiseRef.τ).loc Cert.QuantiseRef.main_v1_1) = v1 c
          ∧ r.2.mem ((c.tc : Thread Cert.QuantiseRef.nD Cert.QuantiseRef.τ).loc Cert.QuantiseRef.main_arg0) = m' ((c.tc : Thread Cert.QuantiseRef.nD Cert.QuantiseRef.τ).loc Cert.QuantiseRef.main_arg0))

def Claim : Prop :=
  ∃ (hProduct : Cert.Product.Facts) (hProductIdeal : Cert.ProductIdeal.Facts) (hProductRefIdeal : Cert.ProductRefIdeal.Facts) (hQuantise : Cert.Quantise.Facts) (hQuantiseRef : Cert.QuantiseRef.Facts),
    quiescent_Product (hProduct := hProduct)
    ∧ quiescent_ProductIdeal (hProductIdeal := hProductIdeal)
    ∧ quiescent_ProductRefIdeal (hProductRefIdeal := hProductRefIdeal)
    ∧ quiescent_Quantise (hQuantise := hQuantise)
    ∧ quiescent_QuantiseRef (hQuantiseRef := hQuantiseRef)
    ∧ preserves_Product_ProductIdeal
    ∧ algebraic_ProductIdeal_ProductRefIdeal (hProductIdeal := hProductIdeal) (hProductRefIdeal := hProductRefIdeal)
    ∧ bitexact_Quantise_QuantiseRef (hQuantise := hQuantise) (hQuantiseRef := hQuantiseRef)
-- ==== Product.lean ====
abbrev S18432x16384 : Shape := ⟨2, ![18432, 16384]⟩
abbrev S18432x128 : Shape := ⟨2, ![18432, 128]⟩
abbrev S7168x16384 : Shape := ⟨2, ![7168, 16384]⟩
abbrev S56x128 : Shape := ⟨2, ![56, 128]⟩
abbrev S3x6144x7168 : Shape := ⟨3, ![3, 6144, 7168]⟩
abbrev S56x128x128 : Shape := ⟨3, ![56, 128, 128]⟩
abbrev S7168x128 : Shape := ⟨2, ![7168, 128]⟩
abbrev S128x7168 : Shape := ⟨2, ![128, 7168]⟩
abbrev S18432x8x16 : Shape := ⟨3, ![18432, 8, 16]⟩
abbrev S8x18432x16 : Shape := ⟨3, ![8, 18432, 16]⟩
abbrev S18432x7168 : Shape := ⟨2, ![18432, 7168]⟩
abbrev S512x2048 : Shape := ⟨2, ![512, 2048]⟩
abbrev S1x512x16 : Shape := ⟨3, ![1, 512, 16]⟩
abbrev S16x512 : Shape := ⟨2, ![16, 512]⟩
abbrev S512x512 : Shape := ⟨2, ![512, 512]⟩
abbrev S512x128 : Shape := ⟨2, ![512, 128]⟩
abbrev S1x512x1 : Shape := ⟨3, ![1, 512, 1]⟩
abbrev S512x1 : Shape := ⟨2, ![512, 1]⟩
abbrev S1x512 : Shape := ⟨2, ![1, 512]⟩

abbrev nBuf : Space → Nat
  | .hbm => 12
  | .vmem => 13
  | .smem => 0
  | _ => 0

abbrev bufTy : (tb : Table) → Fin (tcTables nBuf tb) → BufTy
  | .hbm, ⟨0, _⟩ => ⟨S18432x16384, .fp8e4m3⟩
  | .hbm, ⟨1, _⟩ => ⟨S18432x128, .f32⟩
  | .hbm, ⟨2, _⟩ => ⟨S7168x16384, .fp8e4m3⟩
  | .hbm, ⟨3, _⟩ => ⟨S56x128, .f32⟩
  | .hbm, ⟨4, _⟩ => ⟨S3x6144x7168, .bf16⟩
  | .hbm, ⟨5, _⟩ => ⟨S56x128x128, .f32⟩
  | .hbm, ⟨6, _⟩ => ⟨S7168x128, .f32⟩
  | .hbm, ⟨7, _⟩ => ⟨S128x7168, .f32⟩
  | .hbm, ⟨8, _⟩ => ⟨S18432x8x16, .f32⟩
  | .hbm, ⟨9, _⟩ => ⟨S8x18432x16, .f32⟩
  | .hbm, ⟨10, _⟩ => ⟨S18432x7168, .bf16⟩
  | .hbm, ⟨11, _⟩ => ⟨S18432x7168, .bf16⟩
  | .local _ .vmem, ⟨0, _⟩ => ⟨S512x2048, .fp8e4m3⟩
  | .local _ .vmem, ⟨1, _⟩ => ⟨S512x2048, .fp8e4m3⟩
  | .local _ .vmem, ⟨2, _⟩ => ⟨S1x512x16, .f32⟩
  | .local _ .vmem, ⟨3, _⟩ => ⟨S1x512x16, .f32⟩
  | .local _ .vmem, ⟨4, _⟩ => ⟨S512x2048, .fp8e4m3⟩
  | .local _ .vmem, ⟨5, _⟩ => ⟨S512x2048, .fp8e4m3⟩
  | .local _ .vmem, ⟨6, _⟩ => ⟨S16x512, .f32⟩
  | .local _ .vmem, ⟨7, _⟩ => ⟨S16x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | _, _ => ⟨S18432x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![36, 14, 8], ![false, false, false]⟩

def k0_cond2 (i : grid0.Coords) : BitVec 1 :=
  let arg2 : BitVec 32 := BitVec.ofNat 32 (i 2).val
  let c7_i32 : BitVec 32 := 7#32
  let v199 : BitVec 1 := Scalar.cmpi .eq arg2 c7_i32
  let v200 : BitVec 32 := Scalar.extui v199
  let c0_i32_133 : BitVec 32 := 0#32
  let v201 : BitVec 1 := Scalar.cmpi .ne v200 c0_i32_133
  v201

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ProductRefIdeal.lean ====
abbrev S18432x16384 : Shape := ⟨2, ![18432, 16384]⟩
abbrev S18432x128 : Shape := ⟨2, ![18432, 128]⟩
abbrev S7168x16384 : Shape := ⟨2, ![7168, 16384]⟩
abbrev S56x128 : Shape := ⟨2, ![56, 128]⟩
abbrev S3x6144x7168 : Shape := ⟨3, ![3, 6144, 7168]⟩
abbrev S18432x128x128 : Shape := ⟨3, ![18432, 128, 128]⟩
abbrev S128x18432x128 : Shape := ⟨3, ![128, 18432, 128]⟩
abbrev S7168x128x128 : Shape := ⟨3, ![7168, 128, 128]⟩
abbrev S128x7168x128 : Shape := ⟨3, ![128, 7168, 128]⟩
abbrev S56x128x128 : Shape := ⟨3, ![56, 128, 128]⟩
abbrev S7168x128 : Shape := ⟨2, ![7168, 128]⟩
abbrev S128x7168 : Shape := ⟨2, ![128, 7168]⟩
abbrev S128x18432 : Shape := ⟨2, ![128, 18432]⟩
abbrev S18432x7168 : Shape := ⟨2, ![18432, 7168]⟩
abbrev S128x18432x7168 : Shape := ⟨3, ![128, 18432, 7168]⟩
abbrev S128x18432x1 : Shape := ⟨3, ![128, 18432, 1]⟩
abbrev S128x1x7168 : Shape := ⟨3, ![128, 1, 7168]⟩

abbrev nBuf : Space → Nat
  | .hbm => 15
  | .vmem => 6
  | .smem => 0
  | _ => 0

abbrev bufTy : (tb : Table) → Fin (tcTables nBuf tb) → BufTy
  | .hbm, ⟨0, _⟩ => ⟨S18432x16384, .fp8e4m3⟩
  | .hbm, ⟨1, _⟩ => ⟨S18432x128, .f32⟩
  | .hbm, ⟨2, _⟩ => ⟨S7168x16384, .fp8e4m3⟩
  | .hbm, ⟨3, _⟩ => ⟨S56x128, .f32⟩
  | .hbm, ⟨4, _⟩ => ⟨S3x6144x7168, .bf16⟩
  | .hbm, ⟨5, _⟩ => ⟨S18432x128x128, .fp8e4m3⟩
  | .hbm, ⟨6, _⟩ => ⟨S128x18432x128, .fp8e4m3⟩
  | .hbm, ⟨7, _⟩ => ⟨S7168x128x128, .fp8e4m3⟩
  | .hbm, ⟨8, _⟩ => ⟨S128x7168x128, .fp8e4m3⟩
  | .hbm, ⟨9, _⟩ => ⟨S56x128x128, .f32⟩
  | .hbm, ⟨10, _⟩ => ⟨S7168x128, .f32⟩
  | .hbm, ⟨11, _⟩ => ⟨S128x7168, .f32⟩
  | .hbm, ⟨12, _⟩ => ⟨S128x18432, .f32⟩
  | .hbm, ⟨13, _⟩ => ⟨S18432x7168, .bf16⟩
  | .hbm, ⟨14, _⟩ => ⟨S18432x7168, .bf16⟩
  | .local _ .vmem, ⟨0, _⟩ => ⟨S128x18432x128, .fp8e4m3⟩
  | .local _ .vmem, ⟨1, _⟩ => ⟨S128x18432, .f32⟩
  | .local _ .vmem, ⟨2, _⟩ => ⟨S128x7168x128, .fp8e4m3⟩
  | .local _ .vmem, ⟨3, _⟩ => ⟨S128x7168, .f32⟩
  | .local _ .vmem, ⟨4, _⟩ => ⟨S18432x7168, .bf16⟩
  | .local _ .vmem, ⟨5, _⟩ => ⟨S18432x7168, .bf16⟩
  | _, _ => ⟨S18432x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x18432x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x7168x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Quantise.lean ====
abbrev S3x6144x16384 : Shape := ⟨3, ![3, 6144, 16384]⟩
abbrev S18432x16384 : Shape := ⟨2, ![18432, 16384]⟩
abbrev S18432x128 : Shape := ⟨2, ![18432, 128]⟩
abbrev S256x16384 : Shape := ⟨2, ![256, 16384]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S3x6144x16384, .bf16⟩
  | .hbm, ⟨1, _⟩ => ⟨S18432x16384, .bf16⟩
  | .hbm, ⟨2, _⟩ => ⟨S18432x16384, .fp8e4m3⟩
  | .hbm, ⟨3, _⟩ => ⟨S18432x128, .f32⟩
  | .local _ .vmem, ⟨0, _⟩ => ⟨S256x16384, .bf16⟩
  | .local _ .vmem, ⟨1, _⟩ => ⟨S256x16384, .bf16⟩
  | .local _ .vmem, ⟨2, _⟩ => ⟨S256x16384, .fp8e4m3⟩
  | .local _ .vmem, ⟨3, _⟩ => ⟨S256x16384, .fp8e4m3⟩
  | .local _ .vmem, ⟨4, _⟩ => ⟨S256x128, .f32⟩
  | .local _ .vmem, ⟨5, _⟩ => ⟨S256x128, .f32⟩
  | _, _ => ⟨S3x6144x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantiseRef.lean ====
abbrev S3x6144x16384 : Shape := ⟨3, ![3, 6144, 16384]⟩
abbrev S18432x128x128 : Shape := ⟨3, ![18432, 128, 128]⟩
abbrev S18432x16384 : Shape := ⟨2, ![18432, 16384]⟩
abbrev S18432x128 : Shape := ⟨2, ![18432, 128]⟩
abbrev S18432x128x1 : Shape := ⟨3, ![18432, 128, 1]⟩

abbrev nBuf : Space → Nat
  | .hbm => 4
  | .vmem => 3
  | .smem => 0
  | _ => 0

abbrev bufTy : (tb : Table) → Fin (tcTables nBuf tb) → BufTy
  | .hbm, ⟨0, _⟩ => ⟨S3x6144x16384, .bf16⟩
  | .hbm, ⟨1, _⟩ => ⟨S18432x128x128, .bf16⟩
  | .hbm, ⟨2, _⟩ => ⟨S18432x16384, .fp8e4m3⟩
  | .hbm, ⟨3, _⟩ => ⟨S18432x128, .f32⟩
  | .local _ .vmem, ⟨0, _⟩ => ⟨S18432x128x128, .bf16⟩
  | .local _ .vmem, ⟨1, _⟩ => ⟨S18432x16384, .fp8e4m3⟩
  | .local _ .vmem, ⟨2, _⟩ => ⟨S18432x128, .f32⟩
  | _, _ => ⟨S3x6144x16384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S18432x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.ProductFormula.lean ====
/- The formula of the block-scaled product, over the extended reals: what both the kernel's call and the reference compute. -/
module

public import proofs.«01_k».proof.Proof.Gen.ProductIdeal
public import Idealize.ShloMosaic.Lib.Pipeline.ValueKit
public import Idealize.ShloMosaic.Lib.Pointwise

@[expose] public section

set_option maxRecDepth 16384

noncomputable section

namespace Cert.ProductFormula

open Cert.ProductIdeal Idealize.ShloMosaic Idealize.ShloMosaic.TcCoe

/-- One group of 128 columns at row `r` and output column `n`: the product of the codes over the group, times the row's
    scale for the group, times the scale of the 128x128 block of weights. -/
def group (codes : FVec Ideal S18432x16384 .fp8e4m3) (scales : FVec Ideal S18432x128 .f32)
    (wcodes : FVec Ideal S7168x16384 .fp8e4m3) (wscales : FVec Ideal S56x128 .f32) (r : Fin 18432) (n : Fin 7168)
    (g : Fin 128) : EReal :=
  (∑ k : Fin 128, codes (ix2 r ⟨128 * g + k, by omega⟩) * wcodes (ix2 n ⟨128 * g + k, by omega⟩))
    * scales (ix2 r g) * wscales (ix2 ⟨n / 128, by omega⟩ g)

/-- The result at row `r` and column `n`: the 128 groups, summed, plus the residual of batch `r / 6144`, row `r % 6144`. -/
def result (codes : FVec Ideal S18432x16384 .fp8e4m3) (scales : FVec Ideal S18432x128 .f32)
    (wcodes : FVec Ideal S7168x16384 .fp8e4m3) (wscales : FVec Ideal S56x128 .f32) (residual : FVec Ideal S3x6144x7168 .bf16) :
    FVec Ideal S18432x7168 .bf16 := fun i =>
  (show EReal from ∑ g : Fin 128, group codes scales wcodes wscales (i 0) (i 1) g)
    + residual (ix3 ⟨(i 0 : ℕ) / 6144, by have : (i 0 : ℕ) < 18432 := (i 0).isLt; omega⟩ ⟨(i 0 : ℕ) % 6144, by omega⟩ (i 1))

end Cert.ProductFormula
-- ==== Proof.ProductStep.lean ====
/- What ONE grid point of the product kernel computes, over the extended reals.

   A point multiplies a 512x2048 tile of activation codes with a 512x2048 tile of weight codes. The 2048 columns are sixteen
   groups of 128: the product of each group is multiplied by the row's scale and by the column's scale, and the sixteen
   results are added to the accumulator the point before left (or to zero at the first point of a run of eight). At the
   last point of a run the residual is added as well and the block is written. -/
module

public import proofs.«01_k».proof.Proof.Gen.ProductIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProductIdeal.Step

open Cert.ProductIdeal Cert.ProductIdeal.Gen Idealize.ShloMosaic Idealize.ShloMosaic.TcCoe Idealize.SL.Sem

/-- Adding sixteen numbers one after the other to `a` is adding their sum. -/
theorem add_sum16 (a : EReal) (f : Fin 16 → EReal) :
    a + ∑ g : Fin 16, f g
      = a + f 0 + f 1 + f 2 + f 3 + f 4 + f 5 + f 6 + f 7 + f 8 + f 9 + f 10 + f 11 + f 12 + f 13 + f 14 + f 15 := by
  simp only [Fin.sum_univ_succ, Fin.sum_univ_zero, add_zero, ← add_assoc]
  rfl

/-- One group's contribution to entry `j` of a block: the product of row `j 0` of the activation codes with row `j 1` of
    the weight codes over the group's 128 columns, times the row's scale, times the column's scale. -/
def groupTerm (X : FVec Ideal S512x2048 .fp8e4m3) (XS : FVec Ideal S1x512x16 .f32) (W : FVec Ideal S512x2048 .fp8e4m3)
    (WS : FVec Ideal S16x512 .f32) (j : S512x512.Idx) (g : Fin 16) : EReal :=
  (∑ k : Fin 128, X (ix2 (j 0) ⟨128 * g + k, by omega⟩) * W (ix2 (j 1) ⟨128 * g + k, by omega⟩))
    * XS (ix3 0 (j 0) g) * WS (ix2 g (j 1))

variable (m : (ℓ : Loc nD τ sig) → Buf (Elt Ideal) ℓ)

/-- Point `t`'s contribution to entry `j` of its block: the sixteen groups of its tiles, summed. -/
def part (c : Dev nD) (t : Fin cfg0.N) (j : S512x512.Idx) : EReal :=
  ∑ g : Fin 16, groupTerm (iblk m c 0 t) (iblk m c 1 t) (iblk m c 2 t) (iblk m c 3 t) j g

set_option maxHeartbeats 1600000 in
/-- At a point in the middle of a run the accumulator afterwards is what the point before left plus the point's part. -/
theorem acc_B (c : Dev nD) (t : Fin cfg0.N) (h0 : ¬t.val % 8 = 0) (h1 : ¬t.val % 8 = 7) (j : S512x512.Idx) :
    (outsAt0 m c t.val t.isLt).2 j
      = (outsAt0 m c (t.val - 1) (Nat.lt_of_le_of_lt (Nat.sub_le _ _) t.isLt)).2 j + part m c t j := by
  rw [outsAt0_B m c t h0 h1]
  frame_out
  generalize (outsAt0 m c (t.val - 1) _).2 = s
  simp only [read_unread_whole]
  unfold part
  obtain ⟨X, hX⟩ : ∃ X : FVec Ideal S512x2048 .fp8e4m3, X = iblk m c 0 t := ⟨_, rfl⟩
  rw [← hX]
  obtain ⟨XS, hXS⟩ : ∃ XS : FVec Ideal S1x512x16 .f32, XS = iblk m c 1 t := ⟨_, rfl⟩
  rw [← hXS]
  obtain ⟨W, hW⟩ : ∃ W : FVec Ideal S512x2048 .fp8e4m3, W = iblk m c 2 t := ⟨_, rfl⟩
  rw [← hW]
  obtain ⟨WS, hWS⟩ : ∃ WS : FVec Ideal S16x512 .f32, WS = iblk m c 3 t := ⟨_, rfl⟩
  rw [← hWS]
  rw [add_sum16]
  pointwise [k0_pay1, k0_pay4, k0_pay5, k0_pay6, k0_pay7, k0_pay8, k0_pay9, k0_pay10, k0_pay11, k0_pay12, k0_pay13, k0_pay14,
    k0_pay15, groupTerm]

set_option maxHeartbeats 1600000 in
/-- At the last point of a run the accumulator likewise gains the point's part. -/
theorem acc_C (c : Dev nD) (t : Fin cfg0.N) (h0 : ¬t.val % 8 = 0) (h1 : t.val % 8 = 7) (j : S512x512.Idx) :
    (outsAt0 m c t.val t.isLt).2 j
      = (outsAt0 m c (t.val - 1) (Nat.lt_of_le_of_lt (Nat.sub_le _ _) t.isLt)).2 j + part m c t j := by
  rw [outsAt0_C m c t h0 h1]
  frame_out
  generalize (outsAt0 m c (t.val - 1) _).2 = s
  simp only [read_unread_whole]
  unfold part
  obtain ⟨X, hX⟩ : ∃ X : FVec Ideal S512x2048 .fp8e4m3, X = iblk m c 0 t := ⟨_, rfl⟩
  rw [← hX]
  obtain ⟨XS, hXS⟩ : ∃ XS : FVec Ideal S1x512x16 .f32, XS = iblk m c 1 t := ⟨_, rfl⟩
  rw [← hXS]
  obtain ⟨W, hW⟩ : ∃ W : FVec Ideal S512x2048 .fp8e4m3, W = iblk m c 2 t := ⟨_, rfl⟩
  rw [← hW]
  obtain ⟨WS, hWS⟩ : ∃ WS : FVec Ideal S16x512 .f32, WS = iblk m c 3 t := ⟨_, rfl⟩
  rw [← hWS]
  rw [add_sum16]
  pointwise [k0_pay1, k0_pay4, k0_pay5, k0_pay6, k0_pay7, k0_pay8, k0_pay9, k0_pay10, k0_pay11, k0_pay12, k0_pay13, k0_pay14,
    k0_pay15, groupTerm]

set_option maxHeartbeats 1600000 in
/-- At the first point of a run the accumulator afterwards is zero plus the point's part. -/
theorem acc_A (c : Dev nD) (t : Fin cfg0.N) (h0 : t.val % 8 = 0) (h1 : ¬t.val % 8 = 7) (j : S512x512.Idx) :
    (outsAt0 m c t.val t.isLt).2 j = 0 + part m c t j := by
  rw [outsAt0_A m c t h0 h1]
  frame_out
  unfold part
  obtain ⟨X, hX⟩ : ∃ X : FVec Ideal S512x2048 .fp8e4m3, X = iblk m c 0 t := ⟨_, rfl⟩
  rw [← hX]
  obtain ⟨XS, hXS⟩ : ∃ XS : FVec Ideal S1x512x16 .f32, XS = iblk m c 1 t := ⟨_, rfl⟩
  rw [← hXS]
  obtain ⟨W, hW⟩ : ∃ W : FVec Ideal S512x2048 .fp8e4m3, W = iblk m c 2 t := ⟨_, rfl⟩
  rw [← hW]
  obtain ⟨WS, hWS⟩ : ∃ WS : FVec Ideal S16x512 .f32, WS = iblk m c 3 t := ⟨_, rfl⟩
  rw [← hWS]
  rw [add_sum16]
  pointwise [k0_pay1, k0_pay3, k0_pay4, k0_pay5, k0_pay6, k0_pay7, k0_pay8, k0_pay9, k0_pay10, k0_pay11, k0_pay12, k0_pay13, k0_pay14,
    k0_pay15, groupTerm]

set_option maxHeartbeats 1600000 in
/-- At the last point of a run the block written back is the accumulator plus the residual's block. -/
theorem out_C (c : Dev nD) (t : Fin cfg0.N) (h0 : ¬t.val % 8 = 0) (h1 : t.val % 8 = 7) (j : S512x512.Idx) :
    (outsAt0 m c t.val t.isLt).1 j
      = (outsAt0 m c t.val t.isLt).2 j + (show FVec Ideal S512x512 .bf16 from iblk m c 4 t) j := by
  rw [outsAt0_C m c t h0 h1]
  frame_out
  pointwise [k0_pay2]

end Cert.ProductIdeal.Step
-- ==== Proof.ProductGrid.lean ====
/- The grid of the product kernel: which tiles a point works on, and that the blocks written cover the result. -/
module

public import proofs.«01_k».proof.Proof.Gen.ProductIdeal.Value
public import Idealize.ShloMosaic.Lib.Pipeline.ValueKit

@[expose] public section

set_option maxRecDepth 16384

noncomputable section

namespace Cert.ProductIdeal.Step

open Cert.ProductIdeal Cert.ProductIdeal.Gen Idealize.ShloMosaic Idealize.ShloMosaic.TcCoe Idealize.SL.Sem

/-- Point `t` of the 36 x 14 x 8 grid works on row tile `t / 112`, column tile `t / 8 % 14` and column group tile `t % 8`. -/
theorem idx : ∀ t : Fin cfg0.N, win0_0.index t = ![t.val / 112, t.val % 8] ∧ win0_1.index t = ![t.val % 8, t.val / 112, 0]
    ∧ win0_2.index t = ![t.val / 8 % 14, t.val % 8] ∧ win0_3.index t = ![t.val % 8, t.val / 8 % 14]
    ∧ win0_4.index t = ![t.val / 112, t.val / 8 % 14] ∧ win0_5.index t = ![t.val / 112, t.val / 8 % 14] ∧ t.val < 4032 :=
  (by decide +kernel : ∀ t : Fin grid0.N, _)

/-- The blocks written back cover the result array. -/
theorem covers : (cfg0.win 5).Covers := by decide +kernel

end Cert.ProductIdeal.Step
-- ==== Proof.ProductReads.lean ====
/- What each input block of the product kernel holds, in terms of the five arguments. -/
module

public import proofs.«01_k».proof.Proof.ProductGrid
public import Idealize.ShloMosaic.Lib.Pipeline.ValueKit
public import Idealize.ShloMosaic.Lib.Pointwise

@[expose] public section

set_option maxRecDepth 16384

noncomputable section

namespace Cert.ProductIdeal.Step

open Cert.ProductIdeal Cert.ProductIdeal.Gen Idealize.ShloMosaic Idealize.ShloMosaic.TcCoe Idealize.SL.Sem

variable (m : (ℓ : Loc nD τ sig) → Buf (Elt Ideal) ℓ)

theorem t_lt (t : Fin cfg0.N) : t.val < 4032 := (idx t).2.2.2.2.2.2

/-- The block of activation codes: rows `t / 112 * 512 + r`, columns `t % 8 * 2048 + k`. -/
theorem read0 (c : Dev nD) (t : Fin cfg0.N) (r : Fin 512) (k : Fin 2048) (R : Fin 18432) (K : Fin 16384)
    (hR : (R : ℕ) = t / 112 * 512 + r) (hK : (K : ℕ) = t % 8 * 2048 + k) :
    iblk m c 0 t (ix2 r k) = m ((c : Thread nD τ).loc main_arg0) (ix2 R K) := by
  blk_ext [iblk, V, idx t]

/-- The block of weight codes: rows `t / 8 % 14 * 512 + n`, columns `t % 8 * 2048 + k`. -/
theorem read2 (c : Dev nD) (t : Fin cfg0.N) (n : Fin 512) (k : Fin 2048) (N : Fin 7168) (K : Fin 16384)
    (hN : (N : ℕ) = t / 8 % 14 * 512 + n) (hK : (K : ℕ) = t % 8 * 2048 + k) :
    iblk m c 2 t (ix2 n k) = m ((c : Thread nD τ).loc main_arg2) (ix2 N K) := by
  blk_ext [iblk, V, idx t]

/-- The scales the call reads are the host's reordering of the rows' scales. -/
theorem V4 (c : Dev nD) (l : Fin 8) (r : Fin 18432) (g : Fin 16) :
    V m c main_v4 (ix3 l r g) = m ((c : Thread nD τ).loc main_arg1) (ix2 r ⟨l * 16 + g, by omega⟩) := by
  entry_read
  pointwise

/-- The weights' scales the call reads, one per column, are the host's repetition of the blocks' scales. -/
theorem V2 (c : Dev nD) (g : Fin 128) (n : Fin 7168) :
    V m c main_v2 (ix2 g n) = m ((c : Thread nD τ).loc main_arg3) (ix2 ⟨n / 128, by omega⟩ g) := by
  entry_read
  pointwise

/-- The residual the call reads is the argument with its first two axes merged. -/
theorem V5 (c : Dev nD) (r : Fin 18432) (n : Fin 7168) :
    V m c main_v5 (ix2 r n) = m ((c : Thread nD τ).loc main_arg4) (ix3 ⟨r / 6144, by omega⟩ ⟨r % 6144, by omega⟩ n) := by
  entry_read
  pointwise

/-- The block of the rows' scales: rows `t / 112 * 512 + r`, groups `t % 8 * 16 + g`. -/
theorem read1 (c : Dev nD) (t : Fin cfg0.N) (r : Fin 512) (g : Fin 16) (R : Fin 18432) (G : Fin 128)
    (hR : (R : ℕ) = t / 112 * 512 + r) (hG : (G : ℕ) = t % 8 * 16 + g) :
    iblk m c 1 t (ix3 0 r g) = m ((c : Thread nD τ).loc main_arg1) (ix2 R G) := by
  refine Eq.trans (b := V m c main_v4 (ix3 (⟨t % 8, by omega⟩ : Fin 8) R g)) ?_ ((V4 m c _ R g).trans ?_)
  · blk_ext [iblk, idx t]
  · blk_ext []

/-- The block of the columns' scales: groups `t % 8 * 16 + g`, columns `t / 8 % 14 * 512 + n`. -/
theorem read3 (c : Dev nD) (t : Fin cfg0.N) (g : Fin 16) (n : Fin 512) (N : Fin 7168) (G : Fin 128)
    (hN : (N : ℕ) = t / 8 % 14 * 512 + n) (hG : (G : ℕ) = t % 8 * 16 + g) :
    iblk m c 3 t (ix2 g n) = m ((c : Thread nD τ).loc main_arg3) (ix2 ⟨N / 128, by omega⟩ G) := by
  refine Eq.trans (b := V m c main_v2 (ix2 G N)) ?_ (V2 m c G N)
  blk_ext [iblk, idx t]

/-- The block of the residual: rows `t / 112 * 512 + r`, columns `t / 8 % 14 * 512 + n`. -/
theorem read4 (c : Dev nD) (t : Fin cfg0.N) (r : Fin 512) (n : Fin 512) (R : Fin 18432) (N : Fin 7168)
    (hR : (R : ℕ) = t / 112 * 512 + r) (hN : (N : ℕ) = t / 8 % 14 * 512 + n) :
    iblk m c 4 t (ix2 r n) = m ((c : Thread nD τ).loc main_arg4) (ix3 ⟨R / 6144, by omega⟩ ⟨R % 6144, by omega⟩ N) := by
  refine Eq.trans (b := V m c main_v5 (ix2 R N)) ?_ (V5 m c R N)
  blk_ext [iblk, idx t]

end Cert.ProductIdeal.Step
-- ==== Proof.ProductArray.lean ====
/- What the product kernel's result array holds after the run, over the extended reals: the formula of ProductFormula. -/
module

public import proofs.«01_k».proof.Proof.ProductFormula
public import proofs.«01_k».proof.Proof.ProductStep
public import proofs.«01_k».proof.Proof.ProductReads

@[expose] public section

set_option maxRecDepth 16384

noncomputable section

namespace Cert.ProductIdeal.Step

open Cert.ProductIdeal Cert.ProductIdeal.Gen Idealize.ShloMosaic Idealize.ShloMosaic.TcCoe Idealize.SL.Sem

variable (m : (ℓ : Loc nD τ sig) → Buf (Elt Ideal) ℓ)

/-- The accumulator after the last point of a run of eight is the sum of the eight points' parts. -/
theorem acc_run (c : Dev nD) (t : Fin cfg0.N) (h : t.val % 8 = 8 - 1) (j : S512x512.Idx) :
    (outsAt0 m c t.val t.isLt).2 j
      = ∑ s : Fin 8, part m c ⟨8 * (t.val / 8) + s.val, Pipeline.run_point_lt_of_flush t h s⟩ j := by
  have := Pipeline.eq_sum_fin_of_reset_step_apply_of_flush (M := EReal) (fun n h => (outsAt0 m c n h).2) 8 (fun _ => 0)
    (part m c) (fun t h j => acc_A m c t h (by omega) j)
    (fun t h j => by
      by_cases h7 : t.val % 8 = 7
      · exact acc_C m c t h h7 j
      · exact acc_B m c t h h7 j) t h j
  rw [zero_add] at this
  exact this

/-- A point's sixteen groups at block entry `(r, n)` are the formula's groups `t % 8 * 16 + g` at the entry's row and column. -/
theorem part_at (c : Dev nD) (t : Fin cfg0.N) (r n : Fin 512) (R : Fin 18432) (N : Fin 7168)
    (hR : (R : ℕ) = t / 112 * 512 + r) (hN : (N : ℕ) = t / 8 % 14 * 512 + n) :
    part m c t (ix2 r n) = ∑ g : Fin 16, ProductFormula.group (m ((c : Thread nD τ).loc main_arg0))
      (m ((c : Thread nD τ).loc main_arg1)) (m ((c : Thread nD τ).loc main_arg2)) (m ((c : Thread nD τ).loc main_arg3)) R N
      ⟨t % 8 * 16 + g, by omega⟩ := by
  refine Finset.sum_congr rfl fun g _ => ?_
  refine congrArg₂ (· * ·) (congrArg₂ (· * ·) (Finset.sum_congr rfl fun k _ => congrArg₂ (· * ·) ?_ ?_) ?_) ?_
  · exact read0 m c t r _ R _ hR (by simp only []; omega)
  · exact read2 m c t n _ N _ hN (by simp only []; omega)
  · exact read1 m c t r g R _ hR rfl
  · exact read3 m c t g n N _ hN rfl

/-- The eight points of a run, at the run's last point `t`: together the 128 groups of the entry's row and column. -/
theorem run_at (c : Dev nD) (t : Fin cfg0.N) (h7 : t.val % 8 = 8 - 1) (r n : Fin 512) (R : Fin 18432) (N : Fin 7168)
    (hR : (R : ℕ) = t / 112 * 512 + r) (hN : (N : ℕ) = t / 8 % 14 * 512 + n) :
    ∑ s : Fin 8, part m c ⟨8 * (t.val / 8) + s.val, Pipeline.run_point_lt_of_flush t h7 s⟩ (ix2 r n)
      = ∑ g : Fin 128, ProductFormula.group (m ((c : Thread nD τ).loc main_arg0))
      (m ((c : Thread nD τ).loc main_arg1)) (m ((c : Thread nD τ).loc main_arg2)) (m ((c : Thread nD τ).loc main_arg3)) R N g := by
  rw [Fin.sum_univ_tiles 8 16 rfl]
  refine Finset.sum_congr rfl fun s _ => ?_
  rw [part_at m c _ r n R N (by simp only []; omega) (by simp only []; omega)]
  refine Finset.sum_congr rfl fun g _ => congrArg _ (Fin.ext ?_)
  simp only []
  omega

/-- THE RESULT ARRAY after the run is the formula of the five arguments. -/
theorem final (c : Dev nD) : (dats m 0 c).arrAt 5 (cfgs 0).N
    = ProductFormula.result (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ covers fun t hf y => ?_
  have h7 : t.val % 8 = 7 := (flush0_5 t).mp hf
  obtain ⟨R, hR⟩ : ∃ R : Fin 18432, R = ((cfg0.win 5).blk t).view.emb y 0 := ⟨_, rfl⟩
  obtain ⟨N, hN⟩ : ∃ N : Fin 7168, N = ((cfg0.win 5).blk t).view.emb y 1 := ⟨_, rfl⟩
  have hR' : (R : ℕ) = t / 112 * 512 + (y 0 : ℕ) := by rw [hR]; blk_simp [idx t]
  have hN' : (N : ℕ) = t / 8 % 14 * 512 + (y 1 : ℕ) := by rw [hN]; blk_simp [idx t]
  blk_simp
  rw [after0_5, out_C m c t (by omega) h7, acc_run m c t h7]
  unfold ProductFormula.result
  refine Ideal.add_congr ?_ ?_
  · refine Eq.trans ?_ ((run_at m c t h7 (y 0) (y 1) R N hR' hN').trans ?_)
    · rw [← eq_ix2]
    · rw [hR, hN]
  · refine Eq.trans ?_ ((read4 m c t (y 0) (y 1) R N hR' hN').trans ?_)
    · rw [← eq_ix2]
    · subst hR hN; rfl

end Cert.ProductIdeal.Step
-- ==== Proof.ProductRefArray.lean ====
/- What the reference's result array holds after the run, over the extended reals: the formula of ProductFormula. -/
module

public import proofs.«01_k».proof.Proof.ProductFormula
public import proofs.«01_k».proof.Proof.Gen.ProductRefIdeal.Value
public import Idealize.ShloMosaic.Lib.Pipeline.ValueKit
public import Idealize.ShloMosaic.Lib.Pointwise

@[expose] public section

set_option maxRecDepth 16384

noncomputable section

namespace Cert.ProductRefIdeal.Whole

open Cert.ProductRefIdeal Cert.ProductRefIdeal.Gen Idealize.ShloMosaic Idealize.ShloMosaic.TcCoe Idealize.SL.Sem

variable (m : (ℓ : Loc nD τ sig) → Buf (Elt Ideal) ℓ)

/-- The reference's one payload at an index: the sum over the 128 groups of the batched product times the two scales, plus
    the residual. -/
theorem pay_at (C : FVec Ideal S128x18432x128 .fp8e4m3) (W : FVec Ideal S128x7168x128 .fp8e4m3)
    (S : FVec Ideal S128x18432 .f32) (WS : FVec Ideal S128x7168 .f32) (res : FVec Ideal S18432x7168 .bf16)
    (r : Fin 18432) (n : Fin 7168) :
    k0_pay1 (F := Ideal) C W S WS res (ix2 r n)
      = (show EReal from ∑ g : Fin 128, (∑ k : Fin 128, C (ix3 g r k) * W (ix3 g n k)) * S (ix2 g r) * WS (ix2 g n))
        + res (ix2 r n) := by
  pointwise [k0_pay1]

/-- The activation codes the call reads: grouped by 128 columns. -/
theorem V1 (c : Dev nD) (g : Fin 128) (r : Fin 18432) (k : Fin 128) :
    V m c main_v1 (ix3 g r k) = m ((c : Thread nD τ).loc main_arg0) (ix2 r ⟨g * 128 + k, by omega⟩) := by
  entry_read
  pointwise

/-- The weight codes the call reads: grouped by 128 columns. -/
theorem V3 (c : Dev nD) (g : Fin 128) (n : Fin 7168) (k : Fin 128) :
    V m c main_v3 (ix3 g n k) = m ((c : Thread nD τ).loc main_arg2) (ix2 n ⟨g * 128 + k, by omega⟩) := by
  entry_read
  pointwise

/-- The rows' scales the call reads: transposed. -/
theorem V7 (c : Dev nD) (g : Fin 128) (r : Fin 18432) :
    V m c main_v7 (ix2 g r) = m ((c : Thread nD τ).loc main_arg1) (ix2 r g) := by
  entry_read
  pointwise

/-- The columns' scales the call reads: each block's scale repeated for its 128 columns. -/
theorem V6 (c : Dev nD) (g : Fin 128) (n : Fin 7168) :
    V m c main_v6 (ix2 g n) = m ((c : Thread nD τ).loc main_arg3) (ix2 ⟨n / 128, by omega⟩ g) := by
  entry_read
  pointwise

/-- The residual the call reads: its first two axes merged. -/
theorem V8 (c : Dev nD) (r : Fin 18432) (n : Fin 7168) :
    V m c main_v8 (ix2 r n) = m ((c : Thread nD τ).loc main_arg4) (ix3 ⟨r / 6144, by omega⟩ ⟨r % 6144, by omega⟩ n) := by
  entry_read
  pointwise

/-- The call's one grid point: every block is its whole array. -/
theorem idx : ∀ t : Fin cfg0.N, win0_0.index t = ![0, 0, 0] ∧ win0_1.index t = ![0, 0] ∧ win0_2.index t = ![0, 0, 0]
    ∧ win0_3.index t = ![0, 0] ∧ win0_4.index t = ![0, 0] ∧ win0_5.index t = ![0, 0] :=
  (by decide +kernel : ∀ t : Fin grid0.N, _)

set_option maxHeartbeats 1600000 in
/-- The result array is the one payload over the five operands the host prepares. -/
theorem final_pay (c : Dev nD) : (dats m 0 c).arrAt 5 (cfgs 0).N
    = k0_pay1 (F := Ideal) (V m c main_v1) (V m c main_v3) (V m c main_v7) (V m c main_v6) (V m c main_v8) := by
  refine (dats m 0 c).arrAt_eq_of_after_last 5 t0_0 (by decide +kernel) _ fun j => ?_
  blk_simp
  rw [after0_5]
  frame_out
  rw [show iblk m c 0 t0_0 = V m c main_v1 by blk_ext! [iblk, idx t0_0],
    show iblk m c 1 t0_0 = V m c main_v7 by blk_ext! [iblk, idx t0_0],
    show iblk m c 2 t0_0 = V m c main_v3 by blk_ext! [iblk, idx t0_0],
    show iblk m c 3 t0_0 = V m c main_v6 by blk_ext! [iblk, idx t0_0],
    show iblk m c 4 t0_0 = V m c main_v8 by blk_ext! [iblk, idx t0_0]]

/-- THE RESULT ARRAY after the run is the formula of the five arguments. -/
theorem final (c : Dev nD) : (dats m 0 c).arrAt 5 (cfgs 0).N
    = ProductFormula.result (m ((c : Thread nD τ).loc main_arg0)) (m ((c : Thread nD τ).loc main_arg1))
        (m ((c : Thread nD τ).loc main_arg2)) (m ((c : Thread nD τ).loc main_arg3)) (m ((c : Thread nD τ).loc main_arg4)) := by
  rw [final_pay]
  funext i
  refine Eq.trans (congrArg _ (eq_ix2 i)) ((pay_at _ _ _ _ _ (i 0) (i 1)).trans ?_)
  refine congrArg₂ (· + ·) (Finset.sum_congr rfl fun g _ => ?_) (V8 m c (i 0) (i 1))
  refine congrArg₂ (· * ·) (congrArg₂ (· * ·) (Finset.sum_congr rfl fun k _ => ?_) (V7 m c g (i 0))) (V6 m c g (i 1))
  refine congrArg₂ (· * ·) ((V1 m c g (i 0) k).trans ?_) ((V3 m c g (i 1) k).trans ?_)
  · exact congrArg _ (congrArg _ (Fin.ext (by simp only []; omega)))
  · exact congrArg _ (congrArg _ (Fin.ext (by simp only []; omega)))

end Cert.ProductRefIdeal.Whole
-- ==== Proof.QuantiseTile.lean ====
/- The quantiser on one group of 128 columns, spelt once for any shape of the row statistics: the exponent of a row's scale, the
   power of two of an exponent, the code of a scaled element. Both the kernel's call and the reference are compositions of these. -/
module

public import proofs.«01_k».proof.Proof.Gen.Quantise.Skeleton
public import Idealize.ShloMosaic.Lib.Pipeline.FrameBody
public import Idealize.ShloMosaic.Lib.Pointwise

@[expose] public section

set_option maxRecDepth 16384

noncomputable section

namespace Cert.Quantiser

open Cert.Quantise Cert.Quantise.Gen Idealize.ShloMosaic Idealize.ShloMosaic.TcCoe Idealize.SL.Sem

variable {F : FTy → Type} [BitOps F] {s : Shape}

/-- The words of `x` with every subnormal one replaced by the zero of its sign. -/
def flushed (x : FVec F s .f32) : IVec s 32 :=
  let w := bitcastToInt x
  bitcastToInt (F := F) (φ := .f32) (bitcastToFloat .f32
    (select (cmpi .eq (andi w (broadcast s 2139095040#32)) (broadcast s 0#32)) (andi w (broadcast s 2147483648#32)) w))

/-- The biased exponent field of a word. -/
def field (w : IVec s 32) : IVec s 32 := andi (shrui w (broadcast s 23#32)) (broadcast s 255#32)

/-- THE EXPONENT of a group's scale from its largest magnitude `a`: the exponent `frexp` gives `a * (1/448)`, and 0 if `a` is 0. -/
def expo (a : FVec F s .f32) : IVec s 32 :=
  let b := field (flushed (mulf a (broadcast s (Scalar.ofBits .f32 0x3B124925#32))))
  select (cmpf .oeq a (broadcast s (Scalar.ofBits .f32 0x00000000#32))) (broadcast s 0#32)
    (select (ori (cmpi .eq b (broadcast s 255#32)) (cmpi .eq b (broadcast s 0#32))) (broadcast s 0#32)
      (subi b (broadcast s 126#32)))

/-- THE POWER OF TWO `2 ^ e`, as `ldexp 1 e` makes it: `e`, kept within ±512, added to the exponent field of 1. -/
def pow (e : IVec s 32) : FVec F s .f32 :=
  let w := flushed (F := F) (broadcast s (Scalar.ofBits .f32 0x3F800000#32))
  let sign := andi w (broadcast s 2147483648#32)
  let n := addi (field w) (minsi (maxsi e (broadcast s 4294966784#32)) (broadcast s 512#32))
  bitcastToFloat .f32
    (select (cmpi .eq (field w) (broadcast s 255#32)) w
      (select (cmpi .eq (field w) (broadcast s 0#32)) sign
        (select (cmpi .sle n (broadcast s 0#32)) sign
          (select (cmpi .sge n (broadcast s 255#32)) (ori sign (broadcast s 2139095040#32))
            (ori (ori sign (shli n (broadcast s 23#32))) (andi w (broadcast s 8388607#32)))))))

/-- THE CODE of a scaled element: clipped to ±448 and rounded to fp8. -/
def code (v : FVec F s .f32) : FVec F s .fp8e4m3 :=
  truncf .fp8e4m3 (minimumf (broadcast s (Scalar.ofBits .f32 0x43E00000#32))
    (maximumf (broadcast s (Scalar.ofBits .f32 0xC3E00000#32)) v)) bitsLt_fp8e4m3_f32

/-- An element of the exponents depends on the same element of the magnitudes only, whatever the shapes. -/
theorem expo_congr {t : Shape} (a : FVec F s .f32) (b : FVec F t .f32) (i : s.Idx) (j : t.Idx) (h : a i = b j) :
    expo a i = expo b j := by
  pointwise [expo, flushed, field]
  rw [h]

/-- An element of the powers of two depends on the same element of the exponents only, whatever the shapes. -/
theorem pow_congr {t : Shape} (a : IVec s 32) (b : IVec t 32) (i : s.Idx) (j : t.Idx) (h : a i = b j) :
    pow (F := F) a i = pow (F := F) b j := by
  pointwise [pow, flushed, field]
  rw [h]

/-! ## A tile: 256 rows of one group -/

/-- A tile's elements in f32. -/
def wide (v : Vec F S256x128 .bf16) : FVec F S256x128 .f32 :=
  extf .f32 (shapeCast S256x128 v shapeCasts_S256x128_S256x128) bitsLt_bf16_f32

/-- The largest magnitude of each row of a tile. -/
def largest (v : Vec F S256x128 .bf16) : FVec F S256x1 .f32 :=
  shapeCast S256x1 (multiReduction .maximumf [1] S256 (absf (wide v)) 0xFF800000#32 reduces_S256x128_S256 (.inl rfl) rfl)
    shapeCasts_S256_S256x1

/-- The codes of a tile. -/
def tileCodes (v : Vec F S256x128 .bf16) : FVec F S256x128 .fp8e4m3 :=
  code (mulf (wide v) (broadcastTo S256x128 (pow (subi (broadcast S256x1 0#32) (expo (largest v)))) broadcasts_S256x1_S256x128))

/-- The scales with column `g` set to the scales of tile `v`. -/
def setColumn (g : BitVec 32) (v : Vec F S256x128 .bf16) (prev : FVec F S256x128 .f32) : FVec F S256x128 .f32 :=
  select (cmpi .eq (iota .tc S256x128 32 [1] iota_S256x128_d1_w32) (broadcast S256x128 g))
    (broadcastTo S256x128 (shapeCast S256x1 (pow (expo (largest v))) shapeCasts_S256x1_S256x1) broadcasts_S256x1_S256x128) prev

/-- The scales after the first `n` columns are set, from zeros: column `g` to the scales of tile `T g`. -/
def columns (T : Fin 128 → Vec F S256x128 .bf16) : (n : ℕ) → n ≤ 128 → FVec F S256x128 .f32
  | 0, _ => broadcast S256x128 (Scalar.ofBits .f32 0x00000000#32)
  | n + 1, h => setColumn (BitVec.ofNat 32 n) (T ⟨n, h⟩) (columns T n (Nat.le_of_lt h))

/-- The columns `128 * g` to `128 * g + 127` lie in a block. -/
theorem inb_tile (g : Fin 128) : ∀ a, (![0, 128 * g] : Fin 2 → ℕ) a + S256x128.size a ≤ S256x16384.size a :=
  Rect.inb₂ (by show 0 + 256 ≤ 256; omega) (by show 128 * g.val + 128 ≤ 16384; omega)

/-- Tile `g` of a block of 256 rows: columns `128 * g` to `128 * g + 127`. -/
def tile (x : Vec F S256x16384 .bf16) (g : Fin 128) : Vec F S256x128 .bf16 :=
  View.ld x (Rect.unit (s := S256x16384) ![0, 128 * g] S256x128.size (inb_tile g))

end Cert.Quantiser

end
-- ==== Proof.QuantiseBlock.lean ====
/- What ONE grid point of the quantiser's kernel writes, from its block of 256 rows: the codes and the scales of the 128 tiles. -/
module

public import proofs.«01_k».proof.Proof.QuantiseTile
public import proofs.«01_k».proof.Proof.Gen.Quantise.Value
public import Idealize.ShloMosaic.Lib.Pipeline.ValueKit
public import Idealize.ShloMosaic.Lib.Pointwise

@[expose] public section

set_option maxRecDepth 16384

noncomputable section

namespace Cert.Quantiser

open Cert.Quantise Cert.Quantise.Gen Idealize.ShloMosaic Idealize.ShloMosaic.TcCoe Idealize.SL.Sem

variable {F : FTy → Type} [BitOps F]

/-- The scales a point writes: the 128 columns set one after the other. -/
theorem scales_eq (x0 : Vec F S256x16384 .bf16) : out0_2 x0 = columns (tile x0) 128 (le_refl 128) := by
  have h : out0_2 x0 = View.canon [⟨r0_128, columns (tile x0) 128 (le_refl 128)⟩] := rfl
  rw [h]
  exact View.canon_unit_zero (by decide) _ _

/-- The codes a point writes: 128 tiles, the last one written first in the list. -/
theorem codes_eq (x0 : Vec F S256x16384 .bf16) :
    out0_1 x0 = View.canon (List.ofFn fun k : Fin 128 =>
    (⟨Rect.unit (s := S256x16384) ![0, 128 * k.rev] S256x128.size (inb_tile k.rev), tileCodes (tile x0 k.rev)⟩ :
      View.Piece (Elt F) S256x16384 .fp8e4m3)) := rfl

/-- The code at row `r`, column `K` is that of tile `K / 128`. -/
theorem codes_at (x0 : Vec F S256x16384 .bf16) (r : Fin 256) (K : Fin 16384) :
    out0_1 x0 (ix2 r K) = tileCodes (tile x0 ⟨K / 128, by omega⟩) (ix2 r ⟨K % 128, by omega⟩) := by
  rw [codes_eq]
  refine View.canon_ofFn_unit_eq_of_forall (Val := Elt F) (S := S256x16384) (e := .fp8e4m3) (fun k : Fin 128 => ![0, 128 * k.rev]) S256x128.size
    (fun k => inb_tile k.rev) (fun k => tileCodes (tile x0 k.rev)) _ _ ⟨Fin.rev ⟨K / 128, by omega⟩, fun a => ?_⟩ ?_
  · rw [Fin.rev_rev]
    match a with
    | ⟨0, _⟩ => show 0 ≤ r.val ∧ r.val < 0 + 256; omega
    | ⟨1, _⟩ => show 128 * (K.val / 128) ≤ K.val ∧ K.val < 128 * (K.val / 128) + 128; omega
  · intro k x hx
    have h0 : r.val = 0 + (x 0).val := hx 0
    have h1 : K.val = 128 * k.rev.val + (x 1).val := hx 1
    have hx1 : (x 1).val < 128 := (x 1).isLt
    have hk : k.rev = ⟨K / 128, by omega⟩ := Fin.ext (by show k.rev.val = K.val / 128; omega)
    have hi : x = ix2 r ⟨K % 128, by omega⟩ := by
      funext a
      match a with
      | ⟨0, _⟩ => exact Fin.ext (by show (x 0).val = r.val; omega)
      | ⟨1, _⟩ => exact Fin.ext (by show (x 1).val = K.val % 128; omega)
    exact congrArg₂ (fun g x => tileCodes (tile x0 g) x) hk hi
/-- The scale in column `g`, once set, is that of row `r` of tile `g`. -/
theorem columns_at (T : Fin 128 → Vec F S256x128 .bf16) (r : Fin 256) (g : Fin 128) : ∀ (n : ℕ) (h : n ≤ 128), g.val < n →
    columns T n h (ix2 r g) = pow (expo (largest (T g))) (ix2 r (0 : Fin 1))
  | n + 1, h, hg => by
    by_cases e : g.val = n
    · subst e
      pointwise [columns, setColumn]
    · have hne : BitVec.ofNat 32 g.val ≠ BitVec.ofNat 32 n := fun h' => e (by
        have := congrArg BitVec.toNat h'
        simp only [BitVec.toNat_ofNat] at this
        omega)
      have hc : IntOp.cmpi .eq (BitVec.ofNat 32 g.val) (BitVec.ofNat 32 n) = 0#1 := by
        simp only [IntOp.cmpi, beq_eq_false_iff_ne.mpr hne, BitVec.ofBool_false]; rfl
      pointwise [columns, setColumn]
      rw [hc]
      exact columns_at T r g n _ (by omega)

end Cert.Quantiser

end
-- ==== Proof.QuantiseFormula.lean ====
/- The formula of the quantiser, element by element: what both the kernel's call and the reference compute. -/
module

public import proofs.«01_k».proof.Proof.QuantiseTile
public import Idealize.ShloMosaic.Lib.Pointwise
public import Idealize.ShloMosaic.PureOps.BitExact.Laws

@[expose] public section

set_option maxRecDepth 16384

noncomputable section

namespace Cert.Quantiser

open Cert.Quantise Cert.Quantise.Gen Idealize.ShloMosaic Idealize.ShloMosaic.TcCoe Idealize.SL.Sem

/-- The shape of one statistic. -/
abbrev S1 : Shape := ⟨1, ![1]⟩

/-! ## One group of 128 elements -/

/-- The largest magnitude of a group. -/
def amax (f : Fin 128 → Bits .bf16) : Bits .f32 :=
  (Finset.univ : Finset (Fin 128)).fold FloatOps.maximumf (FloatOps.ofBits .f32 0xFF800000#32)
    fun k => FloatOps.absf (FloatOps.extf .f32 bitsLt_bf16_f32 (f k))

/-- The exponent of a group's scale. -/
def groupExpo (f : Fin 128 → Bits .bf16) : IVec S1 32 := expo (s := S1) fun _ => amax f

/-- The scale of a group. -/
def groupScale (f : Fin 128 → Bits .bf16) : Bits .f32 := pow (groupExpo f) (ix1 (0 : Fin 1))

/-- The code of element `k` of a group: the element times the reciprocal of the scale, clipped to ±448, rounded to fp8. -/
def groupCode (f : Fin 128 → Bits .bf16) (k : Fin 128) : Bits .fp8e4m3 :=
  code (s := S1) (fun _ => FloatOps.mulf (FloatOps.extf .f32 bitsLt_bf16_f32 (f k))
    (pow (subi (broadcast S1 0#32) (groupExpo f)) (ix1 (0 : Fin 1)))) (ix1 (0 : Fin 1))

/-! ## The arrays -/

/-- Group `g` of row `r` of the argument, its first two axes merged. -/
def group (x : Vec Bits S3x6144x16384 .bf16) (r : Fin 18432) (g : Fin 128) : Fin 128 → Bits .bf16 :=
  fun k => x (ix3 ⟨r / 6144, by omega⟩ ⟨r % 6144, by omega⟩ ⟨g * 128 + k, by omega⟩)

/-- The codes of the argument. -/
def codes (x : Vec Bits S3x6144x16384 .bf16) : Vec Bits S18432x16384 .fp8e4m3 :=
  fun i => groupCode (group x (i 0) ⟨(i 1).val / 128, by have : (i 1).val < 16384 := (i 1).isLt; omega⟩) ⟨(i 1).val % 128, by omega⟩

/-- The scales of the argument. -/
def scales (x : Vec Bits S3x6144x16384 .bf16) : Vec Bits S18432x128 .f32 :=
  fun i => groupScale (group x (i 0) (i 1))

/-! ## A tile of the kernel -/

/-- A tile's row statistic is the largest magnitude of the row. -/
theorem largest_at (v : Vec Bits S256x128 .bf16) (r : Fin 256) : largest v (ix2 r (0 : Fin 1)) = amax fun k => v (ix2 r k) := by
  pointwise [largest, wide, amax]

/-- A tile's code. -/
theorem tileCodes_at (v : Vec Bits S256x128 .bf16) (r : Fin 256) (k : Fin 128) :
    tileCodes v (ix2 r k) = groupCode (fun k => v (ix2 r k)) k := by
  pointwise [tileCodes, code, wide, groupCode]
  rw [pow_congr _ (subi (broadcast S1 0#32) (groupExpo fun k => v (ix2 r k))) _ (ix1 (0 : Fin 1)) ?_]
  exact congrArg (fun e => IntOp.subi 0#32 e) (expo_congr _ _ _ _ (largest_at v r))

/-- A tile's scale. -/
theorem tileScale_at (v : Vec Bits S256x128 .bf16) (r : Fin 256) :
    pow (F := Bits) (expo (largest v)) (ix2 r (0 : Fin 1)) = groupScale (fun k => v (ix2 r k)) :=
  pow_congr _ _ _ _ (expo_congr _ _ _ _ (largest_at v r))

end Cert.Quantiser

end
-- ==== Proof.QuantiseArray.lean ====
/- The quantiser's kernel: the two arrays its grid of 72 points leaves are the codes and the scales of the argument. -/
module

public import proofs.«01_k».proof.Proof.QuantiseBlock
public import proofs.«01_k».proof.Proof.QuantiseFormula

@[expose] public section

set_option maxRecDepth 16384

noncomputable section

namespace Cert.Quantiser

open Cert.Quantise Cert.Quantise.Gen Idealize.ShloMosaic Idealize.ShloMosaic.TcCoe Idealize.SL.Sem

variable (m : (ℓ : Loc nD τ sig) → Buf (Elt Bits) ℓ)

/-- Point `t` of the grid works on the 256 rows from `256 * t`. -/
theorem idx : ∀ t : Fin cfg0.N, win0_0.index t = ![t.val, 0] ∧ win0_1.index t = ![t.val, 0] ∧ win0_2.index t = ![t.val, 0]
    ∧ t.val < 72 :=
  (by decide +kernel : ∀ t : Fin grid0.N, _)

theorem t_lt (t : Fin cfg0.N) : t.val < 72 := (idx t).2.2.2

/-- The array the call reads is the argument with its first two axes merged. -/
theorem V0 (c : Dev nD) (r : Fin 18432) (k : Fin 16384) :
    V m c main_v0 (ix2 r k) = m ((c : Thread nD τ).loc main_arg0) (ix3 ⟨r / 6144, by omega⟩ ⟨r % 6144, by omega⟩ k) := by
  entry_read
  pointwise

/-- The block a point reads: rows `256 * t + r`. -/
theorem read0 (c : Dev nD) (t : Fin cfg0.N) (r : Fin 256) (k : Fin 16384) (R : Fin 18432) (hR : (R : ℕ) = t * 256 + r) :
    iblk m c 0 t (ix2 r k) = m ((c : Thread nD τ).loc main_arg0) (ix3 ⟨R / 6144, by omega⟩ ⟨R % 6144, by omega⟩ k) := by
  refine Eq.trans (b := V m c main_v0 (ix2 R k)) ?_ (V0 m c R k)
  blk_ext [iblk, idx t]

/-- Row `r` of tile `g` of the block is group `g` of row `256 * t + r` of the argument. -/
theorem tile_row (c : Dev nD) (t : Fin cfg0.N) (r : Fin 256) (g : Fin 128) (R : Fin 18432) (hR : (R : ℕ) = t * 256 + r) :
    (fun k : Fin 128 => tile (F := Bits) (iblk m c 0 t) g (ix2 r k)) = group (m ((c : Thread nD τ).loc main_arg0)) R g := by
  funext k
  refine Eq.trans ?_ (read0 m c t r ⟨g * 128 + k, by omega⟩ R hR)
  show iblk m c 0 t _ = iblk m c 0 t _
  congr 1
  funext a
  match a with
  | ⟨0, _⟩ => exact Fin.ext (by show 0 + 1 * r.val = r.val; omega)
  | ⟨1, _⟩ => exact Fin.ext (by show 128 * g.val + 1 * k.val = g.val * 128 + k.val; omega)

/-- THE CODES ARRAY after the run. -/
theorem final_codes (c : Dev nD) : (dats m 0 c).arrAt 1 (cfgs 0).N = codes (m ((c : Thread nD τ).loc main_arg0)) := by
  refine (dats m 0 c).arrAt_eq_of_covers 1 _ (by decide +kernel) fun t hf y => ?_
  obtain ⟨r, K, rfl⟩ : ∃ (r : Fin 256) (K : Fin 16384), y = ix2 r K := ⟨y 0, y 1, by funext a; match a with | ⟨0, _⟩ => rfl | ⟨1, _⟩ => rfl⟩
  have ht := t_lt t
  rw [after0_1]
  refine (codes_at _ r K).trans ((tileCodes_at _ _ _).trans ?_)
  rw [tile_row m c t r ⟨K / 128, by omega⟩ ⟨t * 256 + r, by omega⟩ rfl]
  have e : ((cfg0.win 1).blk t).view.emb (ix2 r K) = ix2 (⟨t * 256 + r, by omega⟩ : Fin 18432) K := by
    blk_ext [idx t]
  rw [e]
  rfl

/-- THE SCALES ARRAY after the run. -/
theorem final_scales (c : Dev nD) : (dats m 0 c).arrAt 2 (cfgs 0).N = scales (m ((c : Thread nD τ).loc main_arg0)) := by
  refine (dats m 0 c).arrAt_eq_of_covers 2 _ (by decide +kernel) fun t hf y => ?_
  obtain ⟨r, g, rfl⟩ : ∃ (r : Fin 256) (g : Fin 128), y = ix2 r g := ⟨y 0, y 1, by funext a; match a with | ⟨0, _⟩ => rfl | ⟨1, _⟩ => rfl⟩
  have ht := t_lt t
  rw [after0_2, scales_eq]
  refine (columns_at _ r g 128 _ g.isLt).trans ((tileScale_at _ _).trans ?_)
  rw [tile_row m c t r g ⟨t * 256 + r, by omega⟩ rfl]
  have e : ((cfg0.win 2).blk t).view.emb (ix2 r g) = ix2 (⟨t * 256 + r, by omega⟩ : Fin 18432) g := by
    blk_ext [idx t]
  rw [e]
  rfl

end Cert.Quantiser

end
-- ==== Proof.QuantiseRefArray.lean ====
/- The quantiser's reference: the two arrays its one call leaves are the codes and the scales of the argument. -/
module

public import proofs.«01_k».proof.Proof.QuantiseFormula
public import proofs.«01_k».proof.Proof.Gen.QuantiseRef.Frame
public import Idealize.ShloMosaic.Lib.Pipeline.ValueKit

@[expose] public section

set_option maxRecDepth 16384

noncomputable section

namespace Cert.QuantiserRef

open Cert.QuantiseRef Cert.QuantiseRef.Gen Idealize.ShloMosaic Idealize.ShloMosaic.TcCoe Idealize.SL.Sem
open Cert.Quantiser (expo pow code expo_congr pow_congr amax groupExpo groupScale groupCode group S1)

section
variable {F : FTy → Type} [BitOps F]

/-- The largest magnitude of each group of the reference's array. -/
def largest (v : Vec F S18432x128x128 .bf16) : FVec F S18432x128 .f32 := k0_pay3 v

/-- The scales the reference writes. -/
theorem scales_eq (x0 : Vec F S18432x128x128 .bf16) : out0_2 x0 = pow (expo (largest x0)) := by
  have h : out0_2 x0 = View.canon [⟨r0_2, pow (expo (largest (View.ld x0 r0_0)))⟩] := rfl
  rw [h, View.ld_unit_zero (by decide)]
  exact View.canon_unit_zero (by decide) _ _

/-- The codes the reference writes, before the last two axes are merged. -/
def codes3 (v : Vec F S18432x128x128 .bf16) : FVec F S18432x128x128 .fp8e4m3 :=
  code (mulf (k0_pay2 v) (broadcastTo S18432x128x128 (shapeCast S18432x128x1 (pow (subi (broadcast S18432x128 0#32)
    (expo (largest v)))) shapeCasts_S18432x128_S18432x128x1) broadcasts_S18432x128x1_S18432x128x128))

/-- The codes the reference writes. -/
theorem codes_eq (x0 : Vec F S18432x128x128 .bf16) :
    out0_1 x0 = shapeCast S18432x16384 (codes3 x0) shapeCasts_S18432x128x128_S18432x16384 := by
  have h : out0_1 x0 = View.canon [⟨r0_1, shapeCast S18432x16384 (codes3 (View.ld x0 r0_0)) shapeCasts_S18432x128x128_S18432x16384⟩] := rfl
  rw [h, View.ld_unit_zero (by decide)]
  exact View.canon_unit_zero (by decide) _ _

end

/-- A group's statistic is its largest magnitude. -/
theorem largest_at (v : Vec Bits S18432x128x128 .bf16) (r : Fin 18432) (g : Fin 128) :
    largest v (ix2 r g) = amax fun k => v (ix3 r g k) := by
  pointwise [largest, k0_pay3, k0_pay2, amax]

/-- A scale. -/
theorem scale_at (v : Vec Bits S18432x128x128 .bf16) (r : Fin 18432) (g : Fin 128) :
    pow (F := Bits) (expo (largest v)) (ix2 r g) = groupScale fun k => v (ix3 r g k) :=
  pow_congr _ _ _ _ (expo_congr _ _ _ _ (largest_at v r g))

/-- A code. -/
theorem codes3_at (v : Vec Bits S18432x128x128 .bf16) (r : Fin 18432) (g k : Fin 128) :
    codes3 v (ix3 r g k) = groupCode (fun k => v (ix3 r g k)) k := by
  pointwise [codes3, code, k0_pay2, groupCode]
  rw [pow_congr _ (subi (broadcast S1 0#32) (groupExpo fun k => v (ix3 r g k))) _ (ix1 (0 : Fin 1)) ?_]
  exact congrArg (fun e => IntOp.subi 0#32 e) (expo_congr _ _ _ _ (largest_at v r g))

/-- The code at row `r`, column `K`. -/
theorem codes_at (v : Vec Bits S18432x128x128 .bf16) (r : Fin 18432) (K : Fin 16384) :
    shapeCast S18432x16384 (codes3 v) shapeCasts_S18432x128x128_S18432x16384 (ix2 r K)
      = groupCode (fun k => v (ix3 r ⟨K / 128, by omega⟩ k)) ⟨K % 128, by omega⟩ := by
  refine Eq.trans ?_ (codes3_at v r ⟨K / 128, by omega⟩ ⟨K % 128, by omega⟩)
  pointwise

variable (m : (ℓ : Loc nD τ sig) → Buf (Elt Bits) ℓ) (ρ : Dev nD → PrngReg)

/-- The array the call reads is the argument with its first two axes merged and its last one split into groups. -/
theorem V0 (c : Dev nD) (r : Fin 18432) (g k : Fin 128) :
    V m c main_v0 (ix3 r g k) = group (m ((c : Thread nD τ).loc main_arg0)) r g k := by
  entry_read
  pointwise [group]

/-- The call's one grid point: every block is its whole array. -/
theorem idx : ∀ t : Fin cfg0.N, win0_0.index t = ![0, 0, 0] ∧ win0_1.index t = ![0, 0] ∧ win0_2.index t = ![0, 0] :=
  (by decide +kernel : ∀ t : Fin grid0.N, _)

/-- The one block read is the whole array the host prepares. -/
theorem read0 (c : Dev nD) : iblk m c 0 t0_0 = V m c main_v0 := by
  blk_ext! [iblk, idx t0_0]

/-- The codes of the array the host prepares are those of the argument. -/
theorem codes_whole (c : Dev nD) : shapeCast S18432x16384 (codes3 (V m c main_v0)) shapeCasts_S18432x128x128_S18432x16384
    = Cert.Quantiser.codes (m ((c : Thread nD τ).loc main_arg0)) := by
  funext i
  refine Eq.trans (congrArg _ (eq_ix2 i)) ((codes_at _ (i 0) (i 1)).trans ?_)
  exact congrArg (fun f => groupCode f _) (funext fun k => V0 m c (i 0) _ k)

/-- The scales of the array the host prepares are those of the argument. -/
theorem scales_whole (c : Dev nD) : pow (F := Bits) (expo (F := Bits) (largest (V m c main_v0)))
    = Cert.Quantiser.scales (m ((c : Thread nD τ).loc main_arg0)) := by
  funext i
  refine Eq.trans (congrArg _ (eq_ix2 i)) ((scale_at _ (i 0) (i 1)).trans ?_)
  exact congrArg groupScale (funext fun k => V0 m c (i 0) (i 1) k)

/-- THE CODES ARRAY after the run. -/
theorem final_codes (c : Dev nD) : (dats m 0 c).arrAt 1 (cfgs 0).N = Cert.Quantiser.codes (m ((c : Thread nD τ).loc main_arg0)) := by
  refine (dats m 0 c).arrAt_eq_of_after_last 1 t0_0 (by decide +kernel) _ fun j => ?_
  blk_simp
  rw [after0_1, codes_eq, read0, codes_whole]

/-- THE SCALES ARRAY after the run. -/
theorem final_scales (c : Dev nD) : (dats m 0 c).arrAt 2 (cfgs 0).N = Cert.Quantiser.scales (m ((c : Thread nD τ).loc main_arg0)) := by
  refine (dats m 0 c).arrAt_eq_of_after_last 2 t0_0 (by decide +kernel) _ fun j => ?_
  blk_simp
  rw [after0_2, scales_eq, read0, scales_whole]

/-- THE RUN of the reference, its two result arrays named and its argument unchanged. -/
theorem run_blocks : θ_run defs (onTc (τ := τ) (main (F := Bits))) ⟨m, fun _ => 0, ρ⟩ fun r => ∀ c : Dev nD,
      r.2.mem ((c : Thread nD τ).loc main_v1_0) = (dats m 0 c).arrAt 1 (cfgs 0).N
      ∧ r.2.mem ((c : Thread nD τ).loc main_v1_1) = (dats m 0 c).arrAt 2 (cfgs 0).N
      ∧ r.2.mem ((c : Thread nD τ).loc main_arg0) = m ((c : Thread nD τ).loc main_arg0) :=
  (θ_run defs _ _).mono (fun r h c => ⟨(h c).1 1, (h c).1 2,
      ((h c).2 main_arg0 (Pipeline.mem_restRefs_of main_arg0 (by decide) (by decide))).trans (V_main_arg0 m c)⟩)
    (run_main m ρ)

end Cert.QuantiserRef

end
-- ==== Proof.lean ====
module

public import proofs.«01_k».proof.Defs
public import proofs.«01_k».proof.Proof.Gen.Product
public import proofs.«01_k».proof.Proof.Gen.Product.Skeleton
public import proofs.«01_k».proof.Proof.Gen.Product.Launch
public import proofs.«01_k».proof.Proof.Gen.Product.Points
public import proofs.«01_k».proof.Proof.Gen.Product.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.ProductIdeal.Value
public import proofs.«01_k».proof.Proof.Gen.ProductRefIdeal
public import proofs.«01_k».proof.Proof.Gen.ProductRefIdeal.Skeleton
public import proofs.«01_k».proof.Proof.Gen.ProductRefIdeal.Launch
public import proofs.«01_k».proof.Proof.Gen.ProductRefIdeal.Points
public import proofs.«01_k».proof.Proof.Gen.ProductRefIdeal.Frame
public import proofs.«01_k».proof.Proof.Gen.ProductRefIdeal.Value
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.Quantise.Value
public import proofs.«01_k».proof.Proof.Gen.QuantiseRef
public import proofs.«01_k».proof.Proof.Gen.QuantiseRef.Skeleton
public import proofs.«01_k».proof.Proof.Gen.QuantiseRef.Launch
public import proofs.«01_k».proof.Proof.Gen.QuantiseRef.Points
public import proofs.«01_k».proof.Proof.Gen.QuantiseRef.Frame
public import proofs.«01_k».proof.Proof.ProductArray
public import proofs.«01_k».proof.Proof.ProductRefArray
public import proofs.«01_k».proof.Proof.QuantiseArray
public import proofs.«01_k».proof.Proof.QuantiseRefArray
public import Idealize.ShloMosaic.Adequacy
public import Idealize.ShloMosaic.Init

@[expose] public section

noncomputable section

namespace Cert.Proof

open Idealize.ShloMosaic Idealize.SL.Sem Cert.Product

/-- THE PRODUCT, over the extended reals: from memories that agree on the five arguments, the kernel's call and the
    reference end with the same result array — the formula of ProductFormula — and unchanged arguments. -/
theorem algebraic_product : Cert.algebraic_ProductIdeal_ProductRefIdeal (hProductIdeal := Cert.ProductIdeal.Gen.facts)
    (hProductRefIdeal := Cert.ProductRefIdeal.Gen.facts) := by
  intro m g m' g' _ h
  refine ⟨fun c => (Cert.ProductIdeal.Gen.dats m 0 c).arrAt 5 (Cert.ProductIdeal.cfgs 0).N, ?_, ?_⟩
  · exact Cert.ProductIdeal.Value.run_blocks m g
  · refine (θ_run Cert.ProductRefIdeal.defs _ _).mono (fun r hr c => ⟨(hr c).1.trans ?_, (hr c).2⟩)
      (Cert.ProductRefIdeal.Value.run_blocks m' g')
    obtain ⟨h0, h1, h2, h3, h4⟩ := h c
    refine (Cert.ProductRefIdeal.Whole.final m' c).trans (Eq.trans ?_ (Cert.ProductIdeal.Step.final m c).symm)
    rw [h0, h1, h2, h3, h4]

/-- THE QUANTISER, bit for bit: from memories that agree on the argument, the kernel's call and the reference end with the
    same two result arrays — the codes and the scales of QuantiseFormula — and an unchanged argument. -/
theorem bitexact_quantise : Cert.bitexact_Quantise_QuantiseRef (hQuantise := Cert.Quantise.Gen.facts)
    (hQuantiseRef := Cert.QuantiseRef.Gen.facts) := by
  intro m g m' g' _ h
  refine ⟨fun c => (Cert.Quantise.Gen.dats m 0 c).arrAt 1 (Cert.Quantise.cfgs 0).N,
    fun c => (Cert.Quantise.Gen.dats m 0 c).arrAt 2 (Cert.Quantise.cfgs 0).N, ?_, ?_⟩
  · exact Cert.Quantise.Value.run_blocks m g
  · refine (θ_run Cert.QuantiseRef.defs _ _).mono (fun r hr c => ⟨(hr c).1.trans ?_, (hr c).2.1.trans ?_, (hr c).2.2⟩)
      (Cert.QuantiserRef.run_blocks m' g')
    · refine (Cert.QuantiserRef.final_codes m' c).trans (Eq.trans ?_ (Cert.Quantiser.final_codes m c).symm)
      rw [h c]
    · refine (Cert.QuantiserRef.final_scales m' c).trans (Eq.trans ?_ (Cert.Quantiser.final_scales m c).symm)
      rw [h c]

/-- Everything claimed. -/
theorem claim : Cert.Claim := ⟨Cert.Product.Gen.facts, Cert.ProductIdeal.Gen.facts, Cert.ProductRefIdeal.Gen.facts, Cert.Quantise.Gen.facts, Cert.QuantiseRef.Gen.facts,
  fun m ρ _ => Cert.Product.Gen.frame m ρ, fun m ρ _ => Cert.ProductIdeal.Gen.frame m ρ,
  fun m ρ _ => Cert.ProductRefIdeal.Gen.frame m ρ, fun m ρ _ => Cert.Quantise.Gen.frame m ρ,
  fun m ρ _ => Cert.QuantiseRef.Gen.frame m ρ, trivial, algebraic_product, bitexact_quantise⟩

end Cert.Proof

end
